-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mixing (m : (ℓ : Loc Cert.Mixing.nD Cert.Mixing.τ Cert.Mixing.sig) → Buf (Elt Bits) ℓ) : Prop :=
  True

def Pre_MixingIdeal (m : (ℓ : Loc Cert.MixingIdeal.nD Cert.MixingIdeal.τ Cert.MixingIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mixing [hMixing : Cert.Mixing.Facts] : Prop :=
  ∀ (m : (ℓ : Loc Cert.Mixing.nD Cert.Mixing.τ Cert.Mixing.sig) → Buf (Elt Bits) ℓ) (g : Dev Cert.Mixing.nD → PrngReg), Pre_Mixing m →
    θ_run (Cert.Mixing.defs (F := Bits)) (onTc (τ := Cert.Mixing.τ) (Cert.Mixing.main (F := Bits))) ⟨m, fun _ => 0, g⟩ (fun r => (∀ c : Dev Cert.Mixing.nD,
      r.2.mem ((c.tc : Thread Cert.Mixing.nD Cert.Mixing.τ).loc Cert.Mixing.main_arg0) = m ((c.tc : Thread Cert.Mixing.nD Cert.Mixing.τ).loc Cert.Mixing.main_arg0)
      ∧ r.2.mem ((c.tc : Thread Cert.Mixing.nD Cert.Mixing.τ).loc Cert.Mixing.main_arg1) = m ((c.tc : Thread Cert.Mixing.nD Cert.Mixing.τ).loc Cert.Mixing.main_arg1)
      ∧ r.2.mem ((c.tc : Thread Cert.Mixing.nD Cert.Mixing.τ).loc Cert.Mixing.main_arg2) = m ((c.tc : Thread Cert.Mixing.nD Cert.Mixing.τ).loc Cert.Mixing.main_arg2)
      ∧ r.2.mem ((c.tc : Thread Cert.Mixing.nD Cert.Mixing.τ).loc Cert.Mixing.main_arg3) = m ((c.tc : Thread Cert.Mixing.nD Cert.Mixing.τ).loc Cert.Mixing.main_arg3)
      ∧ r.2.mem ((c.tc : Thread Cert.Mixing.nD Cert.Mixing.τ).loc Cert.Mixing.main_arg4) = m ((c.tc : Thread Cert.Mixing.nD Cert.Mixing.τ).loc Cert.Mixing.main_arg4)
      ∧ r.2.mem ((c.tc : Thread Cert.Mixing.nD Cert.Mixing.τ).loc Cert.Mixing.main_arg5) = m ((c.tc : Thread Cert.Mixing.nD Cert.Mixing.τ).loc Cert.Mixing.main_arg5)
      ∧ r.2.mem ((c.tc : Thread Cert.Mixing.nD Cert.Mixing.τ).loc Cert.Mixing.main_arg6) = m ((c.tc : Thread Cert.Mixing.nD Cert.Mixing.τ).loc Cert.Mixing.main_arg6)
      ∧ r.2.mem ((c.tc : Thread Cert.Mixing.nD Cert.Mixing.τ).loc Cert.Mixing.main_arg7) = m ((c.tc : Thread Cert.Mixing.nD Cert.Mixing.τ).loc Cert.Mixing.main_arg7)
      ∧ r.2.mem ((c.tc : Thread Cert.Mixing.nD Cert.Mixing.τ).loc Cert.Mixing.main_arg8) = m ((c.tc : Thread Cert.Mixing.nD Cert.Mixing.τ).loc Cert.Mixing.main_arg8)
      ∧ r.2.mem ((c.tc : Thread Cert.Mixing.nD Cert.Mixing.τ).loc Cert.Mixing.main_arg9) = m ((c.tc : Thread Cert.Mixing.nD Cert.Mixing.τ).loc Cert.Mixing.main_arg9)
      ∧ r.2.mem ((c.tc : Thread Cert.Mixing.nD Cert.Mixing.τ).loc Cert.Mixing.main_arg10) = m ((c.tc : Thread Cert.Mixing.nD Cert.Mixing.τ).loc Cert.Mixing.main_arg10)
      ∧ r.2.mem ((c.tc : Thread Cert.Mixing.nD Cert.Mixing.τ).loc Cert.Mixing.main_arg11) = m ((c.tc : Thread Cert.Mixing.nD Cert.Mixing.τ).loc Cert.Mixing.main_arg11)
      ∧ r.2.mem ((c.tc : Thread Cert.Mixing.nD Cert.Mixing.τ).loc Cert.Mixing.main_arg12) = m ((c.tc : Thread Cert.Mixing.nD Cert.Mixing.τ).loc Cert.Mixing.main_arg12)
      ∧ r.2.mem ((c.tc : Thread Cert.Mixing.nD Cert.Mixing.τ).loc Cert.Mixing.main_arg13) = m ((c.tc : Thread Cert.Mixing.nD Cert.Mixing.τ).loc Cert.Mixing.main_arg13)
      ∧ r.2.mem ((c.tc : Thread Cert.Mixing.nD Cert.Mixing.τ).loc Cert.Mixing.main_arg14) = m ((c.tc : Thread Cert.Mixing.nD Cert.Mixing.τ).loc Cert.Mixing.main_arg14)
      ∧ r.2.mem ((c.tc : Thread Cert.Mixing.nD Cert.Mixing.τ).loc Cert.Mixing.main_arg15) = m ((c.tc : Thread Cert.Mixing.nD Cert.Mixing.τ).loc Cert.Mixing.main_arg15))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
      ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
      ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
      ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12)
      ∧ r.2.mem ((c.tc : Thread Cert.MixingIdeal.nD Cert.MixingIdeal.τ).loc Cert.MixingIdeal.main_arg13) = m ((c.tc : Thread Cert.MixingIdeal.nD Cert.MixingIdeal.τ).loc Cert.MixingIdeal.main_arg13)
      ∧ r.2.mem ((c.tc : Thread Cert.MixingIdeal.nD Cert.MixingIdeal.τ).loc Cert.MixingIdeal.main_arg14) = m ((c.tc : Thread Cert.MixingIdeal.nD Cert.MixingIdeal.τ).loc Cert.MixingIdeal.main_arg14)
      ∧ r.2.mem ((c.tc : Thread Cert.MixingIdeal.nD Cert.MixingIdeal.τ).loc Cert.MixingIdeal.main_arg15) = m ((c.tc : Thread Cert.MixingIdeal.nD Cert.MixingIdeal.τ).loc Cert.MixingIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mixing_MixingIdeal : Prop :=
  True

def Claim : Prop :=
  ∃ (hKernel : Cert.Kernel.Facts) (hKernelIdeal : Cert.KernelIdeal.Facts) (hReferenceIdeal : Cert.ReferenceIdeal.Facts) (hMixing : Cert.Mixing.Facts) (hMixingIdeal : Cert.MixingIdeal.Facts),
    quiescent_Kernel (hKernel := hKernel)
    ∧ quiescent_KernelIdeal (hKernelIdeal := hKernelIdeal)
    ∧ quiescent_ReferenceIdeal (hReferenceIdeal := hReferenceIdeal)
    ∧ quiescent_Mixing (hMixing := hMixing)
    ∧ quiescent_MixingIdeal (hMixingIdeal := hMixingIdeal)
    ∧ preserves_Kernel_KernelIdeal
    ∧ algebraic_KernelIdeal_ReferenceIdeal (hKernelIdeal := hKernelIdeal) (hReferenceIdeal := hReferenceIdeal)
    ∧ preserves_Mixing_MixingIdeal
-- ==== Kernel.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Mixing.lean ====
abbrev S8x2048x1024 : Shape := ⟨3, ![8, 2048, 1024]⟩
abbrev S8x256x1024 : Shape := ⟨3, ![8, 256, 1024]⟩
abbrev S1x1024 : Shape := ⟨2, ![1, 1024]⟩
abbrev S1x1024x1808 : Shape := ⟨3, ![1, 1024, 1808]⟩
abbrev S1x1024x512 : Shape := ⟨3, ![1, 1024, 512]⟩
abbrev S1x64 : Shape := ⟨2, ![1, 64]⟩
abbrev S1x8 : Shape := ⟨2, ![1, 8]⟩
abbrev S32x8 : Shape := ⟨2, ![32, 8]⟩
abbrev S1x16x128 : Shape := ⟨3, ![1, 16, 128]⟩
abbrev S1x128 : Shape := ⟨2, ![1, 128]⟩
abbrev S1x1024x1024 : Shape := ⟨3, ![1, 1024, 1024]⟩
abbrev S128x256 : Shape := ⟨2, ![128, 256]⟩
abbrev S256 : Shape := ⟨1, ![256]⟩
abbrev S1024x1808 : Shape := ⟨2, ![1024, 1808]⟩
abbrev S1024x1536 : Shape := ⟨2, ![1024, 1536]⟩
abbrev S1024x256 : Shape := ⟨2, ![1024, 256]⟩
abbrev S1024x16 : Shape := ⟨2, ![1024, 16]⟩
abbrev S_ : Shape := ⟨0, ![]⟩
abbrev S1024x112 : Shape := ⟨2, ![1024, 112]⟩
abbrev S1024x1920 : Shape := ⟨2, ![1024, 1920]⟩
abbrev S16x128 : Shape := ⟨2, ![16, 128]⟩
abbrev S112x128 : Shape := ⟨2, ![112, 128]⟩
abbrev S128x128 : Shape := ⟨2, ![128, 128]⟩
abbrev S1024 : Shape := ⟨1, ![1024]⟩
abbrev S1024x512 : Shape := ⟨2, ![1024, 512]⟩
abbrev S1024x1024 : Shape := ⟨2, ![1024, 1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S4x64 : Shape := ⟨2, ![4, 64]⟩
abbrev S1x256 : Shape := ⟨2, ![1, 256]⟩
abbrev S8 : Shape := ⟨1, ![8]⟩
abbrev S1x512x1024 : Shape := ⟨3, ![1, 512, 1024]⟩
abbrev S1x256x1024 : Shape := ⟨3, ![1, 256, 1024]⟩
abbrev S8x128x256 : Shape := ⟨3, ![8, 128, 256]⟩
abbrev S512x512 : Shape := ⟨2, ![512, 512]⟩
abbrev S256x128 : Shape := ⟨2, ![256, 128]⟩
abbrev S640x128 : Shape := ⟨2, ![640, 128]⟩
abbrev S256x256 : Shape := ⟨2, ![256, 256]⟩
abbrev S512x1024 : Shape := ⟨2, ![512, 1024]⟩
abbrev S512x128 : Shape := ⟨2, ![512, 128]⟩
abbrev S512x256 : Shape := ⟨2, ![512, 256]⟩
abbrev S1 : Shape := ⟨1, ![1]⟩
abbrev S1x128x256 : Shape := ⟨3, ![1, 128, 256]⟩
abbrev S256x1024 : Shape := ⟨2, ![256, 1024]⟩
abbrev S256x1 : Shape := ⟨2, ![256, 1]⟩
abbrev S256x512 : Shape := ⟨2, ![256, 512]⟩
abbrev S512x1 : Shape := ⟨2, ![512, 1]⟩
abbrev S512x1920 : Shape := ⟨2, ![512, 1920]⟩
abbrev S128x1 : Shape := ⟨2, ![128, 1]⟩
abbrev S1024x128 : Shape := ⟨2, ![1024, 128]⟩
abbrev S1024x1 : Shape := ⟨2, ![1024, 1]⟩
abbrev S512x384 : Shape := ⟨2, ![512, 384]⟩
abbrev S32x32x128 : Shape := ⟨3, ![32, 32, 128]⟩
abbrev S32x128 : Shape := ⟨2, ![32, 128]⟩
abbrev S32x256 : Shape := ⟨2, ![32, 256]⟩
abbrev S32x1x128 : Shape := ⟨3, ![32, 1, 128]⟩
abbrev S1x32x128 : Shape := ⟨3, ![1, 32, 128]⟩
abbrev S32x32x256 : Shape := ⟨3, ![32, 32, 256]⟩
abbrev S1x32x256 : Shape := ⟨3, ![1, 32, 256]⟩

abbrev nBuf : Space → Nat
  | .hbm => 68
  | .vmem => 35
  | .smem => 2
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1x1024, .f32⟩
  | .hbm, ⟨3, _⟩ => ⟨S1x1024, .f32⟩
  | .hbm, ⟨4, _⟩ => ⟨S1x1024x1808, .f32⟩
  | .hbm, ⟨5, _⟩ => ⟨S1x1024x512, .f32⟩
  | .hbm, ⟨6, _⟩ => ⟨S1x64, .f32⟩
  | .hbm, ⟨7, _⟩ => ⟨S1x64, .f32⟩
  | .hbm, ⟨8, _⟩ => ⟨S1x8, .f32⟩
  | .hbm, ⟨9, _⟩ => ⟨S32x8, .f32⟩
  | .hbm, ⟨10, _⟩ => ⟨S1x16x128, .f32⟩
  | .hbm, ⟨11, _⟩ => ⟨S1x128, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x1024x1024, .f32⟩
  | .hbm, ⟨16, _⟩ => ⟨S128x256, .i32⟩
  | .hbm, ⟨17, _⟩ => ⟨S256, .f32⟩
  | .hbm, ⟨18, _⟩ => ⟨S1024x1808, .f32⟩
  | .hbm, ⟨19, _⟩ => ⟨S1024x1536, .f32⟩
  | .hbm, ⟨20, _⟩ => ⟨S1024x256, .f32⟩
  | .hbm, ⟨21, _⟩ => ⟨S1024x16, .f32⟩
  | .hbm, ⟨22, _⟩ => ⟨S_, .f32⟩
  | .hbm, ⟨23, _⟩ => ⟨S1024x112, .f32⟩
  | .hbm, ⟨24, _⟩ => ⟨S1024x1920, .f32⟩
  | .hbm, ⟨25, _⟩ => ⟨S1024x1920, .bf16⟩
  | .hbm, ⟨26, _⟩ => ⟨S16x128, .f32⟩
  | .hbm, ⟨27, _⟩ => ⟨S_, .f32⟩
  | .hbm, ⟨28, _⟩ => ⟨S112x128, .f32⟩
  | .hbm, ⟨29, _⟩ => ⟨S128x128, .f32⟩
  | .hbm, ⟨30, _⟩ => ⟨S128x128, .bf16⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024x512, .f32⟩
  | .hbm, ⟨36, _⟩ => ⟨S1024x512, .bf16⟩
  | .hbm, ⟨37, _⟩ => ⟨S1024x1024, .f32⟩
  | .hbm, ⟨38, _⟩ => ⟨S1024x1024, .bf16⟩
  | .hbm, ⟨39, _⟩ => ⟨S64, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S64, .f32⟩
  | .hbm, ⟨45, _⟩ => ⟨S1x64, .f32⟩
  | .hbm, ⟨46, _⟩ => ⟨S2x64, .f32⟩
  | .hbm, ⟨47, _⟩ => ⟨S128, .f32⟩
  | .hbm, ⟨48, _⟩ => ⟨S1x128, .f32⟩
  | .hbm, ⟨49, _⟩ => ⟨S64, .f32⟩
  | .hbm, ⟨50, _⟩ => ⟨S1x64, .f32⟩
  | .hbm, ⟨51, _⟩ => ⟨S4x64, .f32⟩
  | .hbm, ⟨52, _⟩ => ⟨S256, .f32⟩
  | .hbm, ⟨53, _⟩ => ⟨S1x256, .f32⟩
  | .hbm, ⟨54, _⟩ => ⟨S64, .f32⟩
  | .hbm, ⟨55, _⟩ => ⟨S1x64, .f32⟩
  | .hbm, ⟨56, _⟩ => ⟨S4x64, .f32⟩
  | .hbm, ⟨57, _⟩ => ⟨S256, .f32⟩
  | .hbm, ⟨58, _⟩ => ⟨S1x256, .f32⟩
  | .hbm, ⟨59, _⟩ => ⟨S64, .f32⟩
  | .hbm, ⟨60, _⟩ => ⟨S1x64, .f32⟩
  | .hbm, ⟨61, _⟩ => ⟨S4x64, .f32⟩
  | .hbm, ⟨62, _⟩ => ⟨S256, .f32⟩
  | .hbm, ⟨63, _⟩ => ⟨S1x256, .f32⟩
  | .hbm, ⟨64, _⟩ => ⟨S128, .f32⟩
  | .hbm, ⟨65, _⟩ => ⟨S1x128, .f32⟩
  | .hbm, ⟨66, _⟩ => ⟨S8, .f32⟩
  | .hbm, ⟨67, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1024, .f32⟩
  | .local _ .vmem, ⟨6, _⟩ => ⟨S1024x1920, .bf16⟩
  | .local _ .vmem, ⟨7, _⟩ => ⟨S1024x512, .bf16⟩
  | .local _ .vmem, ⟨8, _⟩ => ⟨S1024x1024, .bf16⟩
  | .local _ .vmem, ⟨9, _⟩ => ⟨S1x512, .f32⟩
  | .local _ .vmem, ⟨10, _⟩ => ⟨S1x128, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S128x128, .bf16⟩
  | .local _ .vmem, ⟨15, _⟩ => ⟨S1x128, .f32⟩
  | .local _ .vmem, ⟨16, _⟩ => ⟨S128x256, .i32⟩
  | .local _ .vmem, ⟨17, _⟩ => ⟨S1x512x1024, .f32⟩
  | .local _ .vmem, ⟨18, _⟩ => ⟨S1x512x1024, .f32⟩
  | .local _ .vmem, ⟨19, _⟩ => ⟨S8x128x256, .f32⟩
  | .local _ .vmem, ⟨20, _⟩ => ⟨S512x512, .bf16⟩
  | .local _ .vmem, ⟨21, _⟩ => ⟨S512x512, .bf16⟩
  | .local _ .vmem, ⟨22, _⟩ => ⟨S128x256, .bf16⟩
  | .local _ .vmem, ⟨23, _⟩ => ⟨S256x128, .f32⟩
  | .local _ .vmem, ⟨24, _⟩ => ⟨S640x128, .f32⟩
  | .local _ .vmem, ⟨25, _⟩ => ⟨S640x128, .f32⟩
  | .local _ .vmem, ⟨26, _⟩ => ⟨S256x256, .bf16⟩
  | .local _ .vmem, ⟨27, _⟩ => ⟨S256x256, .bf16⟩
  | .local _ .vmem, ⟨28, _⟩ => ⟨S256x128, .f32⟩
  | .local _ .vmem, ⟨29, _⟩ => ⟨S512x1024, .bf16⟩
  | .local _ .vmem, ⟨30, _⟩ => ⟨S512x128, .f32⟩
  | .local _ .vmem, ⟨31, _⟩ => ⟨S512x128, .f32⟩
  | .local _ .vmem, ⟨32, _⟩ => ⟨S512x256, .f32⟩
  | .local _ .vmem, ⟨33, _⟩ => ⟨S512x128, .f32⟩
  | .local _ .vmem, ⟨34, _⟩ => ⟨S512x256, .f32⟩
  | .local _ .smem, ⟨0, _⟩ => ⟨S8, .f32⟩
  | .local _ .smem, ⟨1, _⟩ => ⟨S256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg17_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_scratch11 : Ref sig .tc := ⟨.vmem, 30, rfl⟩
abbrev cc0_scratch12 : Ref sig .tc := ⟨.vmem, 31, rfl⟩
abbrev cc0_scratch13 : Ref sig .tc := ⟨.vmem, 32, rfl⟩
abbrev cc0_scratch14 : Ref sig .tc := ⟨.vmem, 33, rfl⟩
abbrev cc0_scratch15 : Ref sig .tc := ⟨.vmem, 34, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_383 : BitVec 32 := 0#32
  let c16_i32 : BitVec 32 := 16#32
  let v1237 : BitVec 32 := Scalar.addi c0_i32_383 c16_i32
  let c1_i32 : BitVec 32 := 1#32
  ⟨c0_i32_383, v1237, c1_i32⟩
def k0_mult1 (k0_t1 : Fin k0_t1_loop.trips) : BitVec 32 :=
  let c0_i32_383 : BitVec 32 := 0#32
  let c1_i32 : BitVec 32 := 1#32
  let arg36 : BitVec 32 := Scf.iv c0_i32_383 c1_i32 k0_t1
  let c32_i32 : BitVec 32 := 32#32
  let v1278 : BitVec 32 := Scalar.muli arg36 c32_i32
  v1278
def k0_off1 (k0_t1 : Fin k0_t1_loop.trips) : Fin 2 → Nat :=
  let c0_i32_383 : BitVec 32 := 0#32
  let c1_i32 : BitVec 32 := 1#32
  let arg36 : BitVec 32 := Scf.iv c0_i32_383 c1_i32 k0_t1
  let c32_i32 : BitVec 32 := 32#32
  let v1278 : BitVec 32 := Scalar.muli arg36 c32_i32
  let v1279 : BitVec 32 := v1278
  let v1280 : Index := Scalar.indexCast v1279
  let c0_407 : Index := 0#32
  ![v1280.toNat, 0]
def k0_off2 (k0_t1 : Fin k0_t1_loop.trips) : Fin 2 → Nat :=
  let c0_i32_383 : BitVec 32 := 0#32
  let c1_i32 : BitVec 32 := 1#32
  let arg36 : BitVec 32 := Scf.iv c0_i32_383 c1_i32 k0_t1
  let c32_i32 : BitVec 32 := 32#32
  let v1278 : BitVec 32 := Scalar.muli arg36 c32_i32
  let v1279 : BitVec 32 := v1278
  let v1286 : Index := Scalar.indexCast v1279
  let c0_410 : Index := 0#32
  ![v1286.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1920 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x256 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Proof.Ffn.Spec.lean ====
/- The feed-forward half-step on one row, over the extended reals: what both the kernel and the reference compute
   for each row of the residual stream. -/
module

public import Idealize.ShloMosaic.Lib.Pointwise

@[expose] public section

noncomputable section

namespace Cert.Ffn

open Idealize.ShloMosaic

/-- The normalised row: each entry divided by the root of the mean square (plus the small constant), times its gain. -/
def hid (x g : Fin 1024 → EReal) (k : Fin 1024) : EReal :=
  x k * Ideal.rsqrt (Ideal.div (∑ j, x j * x j) (Ideal.ofBits .f32 0x44800000#32) + Ideal.ofBits .f32 0x358637BD#32) * g k

/-- A row of 1024 entries times a 1024 × 2816 matrix. -/
def lin (h : Fin 1024 → EReal) (w : Fin 1024 → Fin 2816 → EReal) (n : Fin 2816) : EReal := ∑ k, h k * w k n

/-- The row plus one half of `(p · sigmoid p · q) · w`. -/
def mix (x : Fin 1024 → EReal) (p q : Fin 2816 → EReal) (w : Fin 2816 → Fin 1024 → EReal) (d : Fin 1024) : EReal :=
  x d + Ideal.ofBits .f32 0x3F000000#32 * ∑ n, p n * Ideal.div 1 (1 + Ideal.exp (-(p n))) * q n * w n d

/-- The half-step of one row. -/
def row (x g : Fin 1024 → EReal) (wg wu : Fin 1024 → Fin 2816 → EReal) (wd : Fin 2816 → Fin 1024 → EReal) (d : Fin 1024) : EReal :=
  mix x (lin (hid x g) wg) (lin (hid x g) wu) wd d

end Cert.Ffn

end
-- ==== Proof.Ffn.Kernel.lean ====
/- The feed-forward kernel's result array, index by index: row `i` is `Ffn.row` of row `(i / 2048, i % 2048)` of the
   residual stream. Grid point `t` computes rows `512 t … 512 t + 511`. -/
module

public import proofs.«01_k».proof.Proof.Gen.KernelIdeal.Value
public import proofs.«01_k».proof.Proof.Ffn.Spec
public import Idealize.ShloMosaic.Lib.Pipeline.ValueKit.Geometry

@[expose] public section

set_option maxRecDepth 16384

noncomputable section

namespace Cert.Ffn

open Idealize.ShloMosaic Idealize.ShloMosaic.TcCoe Idealize.SL.Sem
open Cert.KernelIdeal Cert.KernelIdeal.Gen
open Idealize.ShloMosaic.Pipeline (Dat)

/-- What one grid point stores, read at an index: the half-step of that row of its block. -/
theorem pay_apply (x0 : FVec Ideal S512x1024 .f32) (x1 : FVec Ideal S1x1024 .f32) (x2 x3 : FVec Ideal S1024x2816 .bf16)
    (x4 : FVec Ideal S2816x1024 .bf16) (r : Fin 512) (d : Fin 1024) :
    k0_pay1 (F := Ideal) x0 x1 x2 x3 x4 (ix2 r d)
      = row (fun k => x0 (ix2 r k)) (fun k => x1 (ix2 0 k)) (fun k n => x2 (ix2 k n)) (fun k n => x3 (ix2 k n))
          (fun n k => x4 (ix2 n k)) d := by
  pointwise [k0_pay1]
  simp only [zero_sub]
  rfl

variable (m : (ℓ : Loc nD τ sig) → Buf (Elt Ideal) ℓ)

/-! ## The arrays the call is given -/

theorem V_v0 (c : Dev nD) : V m c main_v0
    = shapeCast S16384x1024 (m ((c : Thread nD τ).loc main_arg0) : FVec Ideal S8x2048x1024 .f32) shapeCasts_S8x2048x1024_S16384x1024 := by
  unfold V; after_results; rfl
theorem V_v2 (c : Dev nD) : V m c main_v2
    = shapeCast S1x1024 (shapeCast S1024 (m ((c : Thread nD τ).loc main_arg1) : FVec Ideal S1x1024 .f32) shapeCasts_S1x1024_S1024) shapeCasts_S1024_S1x1024 := by
  unfold V; after_results; rfl
theorem V_v4 (c : Dev nD) : V m c main_v4
    = (truncf .bf16 (shapeCast S1024x2816 (m ((c : Thread nD τ).loc main_arg2) : FVec Ideal S1x1024x2816 .f32) shapeCasts_S1x1024x2816_S1024x2816) bitsLt_bf16_f32 : FVec Ideal S1024x2816 .bf16) := by
  unfold V; after_results; rfl
theorem V_v6 (c : Dev nD) : V m c main_v6
    = (truncf .bf16 (shapeCast S1024x2816 (m ((c : Thread nD τ).loc main_arg3) : FVec Ideal S1x1024x2816 .f32) shapeCasts_S1x1024x2816_S1024x2816) bitsLt_bf16_f32 : FVec Ideal S1024x2816 .bf16) := by
  unfold V; after_results; rfl
theorem V_v8 (c : Dev nD) : V m c main_v8
    = (truncf .bf16 (shapeCast S2816x1024 (m ((c : Thread nD τ).loc main_arg4) : FVec Ideal S1x2816x1024 .f32) shapeCasts_S1x2816x1024_S2816x1024) bitsLt_bf16_f32 : FVec Ideal S2816x1024 .bf16) := by
  unfold V; after_results; rfl

theorem x2d_apply (x : FVec Ideal S8x2048x1024 .f32) (i : Fin 16384) (k : Fin 1024) :
    shapeCast S16384x1024 x shapeCasts_S8x2048x1024_S16384x1024 (ix2 i k)
      = x (ix3 ⟨i.val / 2048, by omega⟩ ⟨i.val % 2048, by omega⟩ k) := by pointwise
theorem gain_apply (g : FVec Ideal S1x1024 .f32) (k : Fin 1024) :
    shapeCast S1x1024 (shapeCast S1024 g shapeCasts_S1x1024_S1024) shapeCasts_S1024_S1x1024 (ix2 0 k) = g (ix2 0 k) := by pointwise
theorem up_apply (w : FVec Ideal S1x1024x2816 .f32) (k : Fin 1024) (n : Fin 2816) :
    (truncf .bf16 (shapeCast S1024x2816 w shapeCasts_S1x1024x2816_S1024x2816) bitsLt_bf16_f32 : FVec Ideal S1024x2816 .bf16) (ix2 k n)
      = w (ix3 0 k n) := by pointwise
theorem down_apply (w : FVec Ideal S1x2816x1024 .f32) (n : Fin 2816) (k : Fin 1024) :
    (truncf .bf16 (shapeCast S2816x1024 w shapeCasts_S1x2816x1024_S2816x1024) bitsLt_bf16_f32 : FVec Ideal S2816x1024 .bf16) (ix2 n k)
      = w (ix3 0 n k) := by pointwise

/-! ## The blocks -/

theorem idx_moving : ∀ t : Fin cfg0.N, win0_0.index t 0 = t.val ∧ win0_0.index t 1 = 0 ∧ win0_5.index t 0 = t.val ∧ win0_5.index t 1 = 0 := by
  decide +kernel
theorem idx1 : ∀ (t : Fin cfg0.N) (a : Fin 2), win0_1.index t a = 0 := by decide +kernel
theorem idx2 : ∀ (t : Fin cfg0.N) (a : Fin 2), win0_2.index t a = 0 := by decide +kernel
theorem idx3 : ∀ (t : Fin cfg0.N) (a : Fin 2), win0_3.index t a = 0 := by decide +kernel
theorem idx4 : ∀ (t : Fin cfg0.N) (a : Fin 2), win0_4.index t a = 0 := by decide +kernel

/-- Row `r` of grid point `t`'s block is this row of the array. -/
def rowOf (t : Fin cfg0.N) (r : Fin 512) : Fin 16384 :=
  ⟨t.val * 512 + r.val, by have := t.isLt; have : cfg0.N = 32 := N_0; omega⟩

theorem blk0 (c : Dev nD) (t : Fin cfg0.N) (r : Fin 512) (k : Fin 1024) :
    (iblk m c 0 t : FVec Ideal S512x1024 .f32) (ix2 r k) = V m c main_v0 (ix2 (rowOf t r) k) := by
  unfold iblk
  refine congrArg (V m c main_v0) ?_
  funext a
  have h := idx_moving t
  fin_cases a <;> apply Fin.ext
  · refine (Pipeline.Window.rect_emb_val win0_0 t _ _).trans ?_
    show win0_0.index t 0 * 512 + _ = _
    rw [h.1]; rfl
  · refine (Pipeline.Window.rect_emb_val win0_0 t _ _).trans ?_
    show win0_0.index t 1 * 1024 + _ = _
    rw [h.2.1]; simp
theorem blk1 (c : Dev nD) (t : Fin cfg0.N) : (iblk m c 1 t : FVec Ideal S1x1024 .f32) = V m c main_v2 := by
  funext y
  exact congrArg (V m c main_v2) (funext fun a => Fin.ext (Pipeline.Window.rect_emb_val_of_index_zero win0_1 t a (idx1 t a) _))
theorem blk2 (c : Dev nD) (t : Fin cfg0.N) : (iblk m c 2 t : FVec Ideal S1024x2816 .bf16) = V m c main_v4 := by
  funext y
  exact congrArg (V m c main_v4) (funext fun a => Fin.ext (Pipeline.Window.rect_emb_val_of_index_zero win0_2 t a (idx2 t a) _))
theorem blk3 (c : Dev nD) (t : Fin cfg0.N) : (iblk m c 3 t : FVec Ideal S1024x2816 .bf16) = V m c main_v6 := by
  funext y
  exact congrArg (V m c main_v6) (funext fun a => Fin.ext (Pipeline.Window.rect_emb_val_of_index_zero win0_3 t a (idx3 t a) _))
theorem blk4 (c : Dev nD) (t : Fin cfg0.N) : (iblk m c 4 t : FVec Ideal S2816x1024 .bf16) = V m c main_v8 := by
  funext y
  exact congrArg (V m c main_v8) (funext fun a => Fin.ext (Pipeline.Window.rect_emb_val_of_index_zero win0_4 t a (idx4 t a) _))

/-! ## The whole result array -/

/-- The half-step of every row of the residual stream. -/
def G (c : Dev nD) : FVec Ideal S16384x1024 .f32 := fun i =>
  row (fun k => (m ((c : Thread nD τ).loc main_arg0) : FVec Ideal S8x2048x1024 .f32)
        (ix3 ⟨(i 0).val / 2048, by have : (i 0).val < 16384 := (i 0).isLt; omega⟩ ⟨(i 0).val % 2048, by omega⟩ k))
    (fun k => (m ((c : Thread nD τ).loc main_arg1) : FVec Ideal S1x1024 .f32) (ix2 0 k))
    (fun k n => (m ((c : Thread nD τ).loc main_arg2) : FVec Ideal S1x1024x2816 .f32) (ix3 0 k n))
    (fun k n => (m ((c : Thread nD τ).loc main_arg3) : FVec Ideal S1x1024x2816 .f32) (ix3 0 k n))
    (fun n k => (m ((c : Thread nD τ).loc main_arg4) : FVec Ideal S1x2816x1024 .f32) (ix3 0 n k)) (i 1)

theorem hz : (![0, 0] : Fin 2 → Nat) = fun _ => 0 := funext fun a => by fin_cases a <;> rfl

/-- What grid point `t` leaves in the output block, at an index of it. -/
theorem after_apply (c : Dev nD) (t : Fin cfg0.N) (r : Fin 512) (d : Fin 1024) :
    ((dats m 0 c).after 5 t : FVec Ideal S512x1024 .f32) (ix2 r d) = G m c (ix2 (rowOf t r) d) := by
  refine (congrFun (show (dats m 0 c).after 5 t = k0_pay1 (F := Ideal) (iblk m c 0 t) (iblk m c 1 t) (iblk m c 2 t) (iblk m c 3 t) (iblk m c 4 t) from ?_) (ix2 r d)).trans ?_
  · refine (after0_5 m c t).trans ?_
    unfold out0_5
    rw [View.canon_unit_zero hz]
    simp only [View.ld_unit_zero (S := S512x1024) hz, View.ld_unit_zero (S := S1x1024) hz, View.ld_unit_zero (S := S1024x2816) hz,
      View.ld_unit_zero (S := S2816x1024) hz]
  · refine (pay_apply _ _ _ _ _ r d).trans ?_
    rw [blk1, blk2, blk3, blk4, V_v2, V_v4, V_v6, V_v8]
    simp only [blk0]
    rw [V_v0]
    simp only [up_apply, down_apply]
    unfold G
    congr 1
    · exact funext fun k => x2d_apply _ _ k
    · exact funext fun k => gain_apply _ k

/-- The block's index in the array. -/
theorem emb_eq (t : Fin cfg0.N) (r : Fin 512) (d : Fin 1024) :
    (((cfg0.win 5).blk t).view.emb (ix2 r d : S512x1024.Idx) : S16384x1024.Idx) = ix2 (rowOf t r) d := by
  funext a
  have h := idx_moving t
  fin_cases a <;> apply Fin.ext
  · refine (Pipeline.Window.rect_emb_val win0_5 t _ _).trans ?_
    show win0_5.index t 0 * 512 + _ = _
    rw [h.2.2.1]; rfl
  · refine (Pipeline.Window.rect_emb_val win0_5 t _ _).trans ?_
    show win0_5.index t 1 * 1024 + _ = _
    rw [h.2.2.2]; simp

theorem covers : win0_5.Covers := by decide +kernel

/-- The result array after the run is `G`: every row lies in the block of the one grid point that writes it. -/
theorem arr_eq (c : Dev nD) : (dats m 0 c).arrAt 5 cfg0.N = G m c := by
  refine (dats m 0 c).arrAt_eq_of_covers 5 (G m c) covers (fun t _ y => ?_)
  have hy : (y : S512x1024.Idx) = ix2 (y 0) (y 1) := by funext a; fin_cases a <;> rfl
  exact (congrArg ((dats m 0 c).after 5 t : FVec Ideal S512x1024 .f32) hy).trans ((after_apply m c t (y 0) (y 1)).trans
    (congrArg (G m c) ((emb_eq t (y 0) (y 1)).symm.trans (congrArg _ hy.symm))))

end Cert.Ffn

end
-- ==== Proof.Ffn.Reference.lean ====
/- The reference of the feed-forward half-step, read at an index: row `i` of its result is `Ffn.row` of row
   `(i / 2048, i % 2048)` of the residual stream. -/
module

public import proofs.«01_k».proof.Proof.Gen.ReferenceIdeal.Run
public import proofs.«01_k».proof.Proof.Ffn.Spec

@[expose] public section

set_option maxRecDepth 16384

noncomputable section

namespace Cert.FfnRef

open Idealize.ShloMosaic Idealize.ShloMosaic.TcCoe Idealize.SL.Sem
open Cert.ReferenceIdeal Cert.ReferenceIdeal.Gen

/-- The normalised residual stream, as the reference's operations compose it. -/
def hidden (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast S1024 g shapeCasts_S1x1024_S1024)))

/-- One of the two projections into the hidden width. -/
def proj (h : FVec Ideal S8x2048x1024 .f32) (w : FVec Ideal S1x1024x2816 .f32) : FVec Ideal S8x2048x2816 .f32 :=
  Host.dotGeneral dot_S8x2048x1024_S1024x2816_S8x2048x2816_2_0_01_1_n_n none h (shapeCast S1024x2816 w shapeCasts_S1x1024x2816_S1024x2816)

/-- The gated product projected back, halved and added to the residual stream. -/
def out (x : FVec Ideal S8x2048x1024 .f32) (p q : FVec Ideal S8x2048x2816 .f32) (w : FVec Ideal S1x2816x1024 .f32) : FVec Ideal S16384x1024 .f32 :=
  shapeCast S16384x1024 (addf x (mulf (broadcastInDim S8x2048x1024 ![] bcast_S_S8x2048x1024 (constant S_ .f32 0x3F000000#32)) (Host.dotGeneral dot_S8x2048x2816_S2816x1024_S8x2048x1024_2_0_01_1_n_n none (mulf (mulf p (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf p))))) q) (shapeCast S2816x1024 w shapeCasts_S1x2816x1024_S2816x1024)))) shapeCasts_S8x2048x1024_S16384x1024

theorem hidden_apply (x : FVec Ideal S8x2048x1024 .f32) (g : FVec Ideal S1x1024 .f32) (b : Fin 8) (s : Fin 2048) (d : Fin 1024) :
    hidden x g (ix3 b s d) = Ffn.hid (fun k => x (ix3 b s k)) (fun k => g (ix2 0 k)) d := by
  pointwise [hidden]
  rfl

theorem proj_apply (h : FVec Ideal S8x2048x1024 .f32) (w : FVec Ideal S1x1024x2816 .f32) (b : Fin 8) (s : Fin 2048) (n : Fin 2816) :
    proj h w (ix3 b s n) = Ffn.lin (fun k => h (ix3 b s k)) (fun k n => w (ix3 0 k n)) n := by
  pointwise [proj]
  rfl

theorem out_apply (x : FVec Ideal S8x2048x1024 .f32) (p q : FVec Ideal S8x2048x2816 .f32) (w : FVec Ideal S1x2816x1024 .f32)
    (i : Fin 16384) (d : Fin 1024) (b : Fin 8) (s : Fin 2048) (hb : b.val = i.val / 2048) (hs : s.val = i.val % 2048) :
    out x p q w (ix2 i d)
      = Ffn.mix (fun k => x (ix3 b s k)) (fun n => p (ix3 b s n)) (fun n => q (ix3 b s n)) (fun n k => w (ix3 0 n k)) d := by
  have eb : b = ⟨i.val / 2048, hb ▸ b.isLt⟩ := Fin.ext hb
  have es : s = ⟨i.val % 2048, hs ▸ s.isLt⟩ := Fin.ext hs
  rw [eb, es]
  pointwise [out]
  rfl

/-- The whole reference at row `i` (batch entry `b`, position `s`) and column `d`. -/
theorem ref_apply (x : FVec Ideal S8x2048x1024 .f32) (g : FVec Ideal S1x1024 .f32) (wg wu : FVec Ideal S1x1024x2816 .f32)
    (wd : FVec Ideal S1x2816x1024 .f32) (i : Fin 16384) (d : Fin 1024) (b : Fin 8) (s : Fin 2048)
    (hb : b.val = i.val / 2048) (hs : s.val = i.val % 2048) :
    out x (proj (hidden x g) wg) (proj (hidden x g) wu) wd (ix2 i d)
      = Ffn.row (fun k => x (ix3 b s k)) (fun k => g (ix2 0 k)) (fun k n => wg (ix3 0 k n)) (fun k n => wu (ix3 0 k n))
          (fun n k => wd (ix3 0 n k)) d := by
  rw [out_apply x _ _ wd i d b s hb hs]
  simp only [proj_apply, hidden_apply]
  rfl

/-- The reference's run: its result is the composed function of its arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = out (m ((c.tc : Thread nD τ).loc main_arg0))
          (proj (hidden (m ((c.tc : Thread nD τ).loc main_arg0)) (m ((c.tc : Thread nD τ).loc main_arg1))) (m ((c.tc : Thread nD τ).loc main_arg2)))
          (proj (hidden (m ((c.tc : Thread nD τ).loc main_arg0)) (m ((c.tc : Thread nD τ).loc main_arg1))) (m ((c.tc : Thread nD τ).loc main_arg3)))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2⟩) (Cert.ReferenceIdeal.Value.run m ρ)

end Cert.FfnRef

end
-- ==== Proof.Ffn.Claim.lean ====
/- The feed-forward half-step's value claim: on the same arguments the kernel and the reference end with the same array. -/
module

public import proofs.«01_k».proof.Defs
public import proofs.«01_k».proof.Proof.Ffn.Kernel
public import proofs.«01_k».proof.Proof.Ffn.Reference

@[expose] public section

noncomputable section

namespace Cert.Ffn

open Idealize.ShloMosaic Idealize.ShloMosaic.TcCoe Idealize.SL.Sem
open Cert.KernelIdeal Cert.KernelIdeal.Gen

variable (m : (ℓ : Loc nD τ sig) → Buf (Elt Ideal) ℓ)

/-- The reference's composed function of the kernel's arguments is the array `G` the kernel ends with. -/
theorem ref_eq (c : Dev nD) (x : FVec Ideal S8x2048x1024 .f32) (g : FVec Ideal S1x1024 .f32) (wg wu : FVec Ideal S1x1024x2816 .f32)
    (wd : FVec Ideal S1x2816x1024 .f32)
    (hx : x = m ((c : Thread nD τ).loc main_arg0)) (hg : g = m ((c : Thread nD τ).loc main_arg1)) (hwg : wg = m ((c : Thread nD τ).loc main_arg2))
    (hwu : wu = m ((c : Thread nD τ).loc main_arg3)) (hwd : wd = m ((c : Thread nD τ).loc main_arg4)) :
    FfnRef.out x (FfnRef.proj (FfnRef.hidden x g) wg) (FfnRef.proj (FfnRef.hidden x g) wu) wd = G m c := by
  subst hx hg hwg hwu hwd
  funext i
  have hi : i = ix2 (i 0) (i 1) := by funext a; fin_cases a <;> rfl
  refine (congrArg _ hi).trans (FfnRef.ref_apply _ _ _ _ _ (i 0) (i 1) ⟨(i 0).val / 2048, ?_⟩ ⟨(i 0).val % 2048, ?_⟩ rfl rfl)
  · have : (i 0).val < 16384 := (i 0).isLt
    omega
  · omega

theorem algebraic : Cert.algebraic_KernelIdeal_ReferenceIdeal := fun m g m' g' _ heq =>
  ⟨G m, (θ_run defs _ _).mono (fun _ h c => ⟨(h c).1.trans (arr_eq m c), (h c).2⟩) (Cert.KernelIdeal.Value.run_blocks m g),
    (θ_run Cert.ReferenceIdeal.defs _ _).mono (fun _ h c => ⟨(h c).1.trans (ref_eq m c _ _ _ _ _ (heq c).1 (heq c).2.1 (heq c).2.2.1 (heq c).2.2.2.1 (heq c).2.2.2.2), (h c).2⟩)
      (FfnRef.run m' g')⟩

end Cert.Ffn

end
-- ==== Proof.Mix.Keeps.lean ====
module

public import Idealize.ShloMosaic.Lib.Memref
public import Idealize.ShloMosaic.Lib.Scf
public import Idealize.ShloMosaic.Lib.Tactic
public import Idealize.ShloMosaic.Lib.Pipeline.FrameBody

@[expose] public section

/-!
# Bodies that keep what they hold

A kernel body made only of loads, stores, conditionals and counted loops over buffers it holds whole can always run, and
afterwards holds the same buffers, each at some contents. `Keeps I p` says this of a program `p` and a holding `I`, and
the lemmas prove it operation by operation, with nothing said of the values stored.
-/

noncomputable section

namespace Cert.Keeping

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable (defs : Defs nD τ sig Val Λ) (c : Dev nD) (I : sProp (MT nD τ sig Unit Val ℕ U ℕ))

/-- From the holding `I` the program `p` runs, and at its end `I` holds again, whatever `p` returns. -/
def Keeps {α : Type} (p : Prog (TpuEff nD τ sig Val Λ .tc) α) : Prop :=
  I ⊢ wp frame (wpE defs Variants.none (c : Thread nD τ) none) Set.univ p (fun _ => I)

/-- The holding `I` contains the buffer `m`, at some contents and some share, and gets it back unchanged. -/
def Reads {sp : Space} {s : Shape} {e : EltTy} (m : Memref sig .tc sp s e) : Prop :=
  I ⊢ iprop(∃ q, ∃ X, owns (c : Thread nD τ) m q X ∗ (owns (c : Thread nD τ) m q X -∗ I))

/-- The holding `I` contains the whole of the buffer `m`, at some contents, and takes it back at any others. -/
def Writes {sp : Space} {s : Shape} {e : EltTy} (m : Memref sig .tc sp s e) : Prop :=
  I ⊢ iprop(∃ X, owns (c : Thread nD τ) m fullShare X ∗ (∀ X', owns (c : Thread nD τ) m fullShare X' -∗ I))

variable {defs c I}

/-- A buffer held at known contents can be read. -/
theorem Reads.here {sp : Space} {s : Shape} {e : EltTy} {m : Memref sig .tc sp s e} {q : PosShare TreeShare} {X : s.Idx → Val e} :
    Reads c (owns (c : Thread nD τ) m q X : sProp 𝕄) m := by
  unfold Reads
  iintro H
  iexists q, X
  isplitl [H]; · iexact H
  iintro H; iexact H

/-- A buffer held whole at some contents can be written. -/
theorem Writes.here {sp : Space} {s : Shape} {e : EltTy} {m : Memref sig .tc sp s e} :
    Writes c (iprop(∃ X, owns (c : Thread nD τ) m fullShare X) : sProp 𝕄) m := by
  unfold Writes
  iintro ⟨%X, H⟩
  iexists X
  isplitl [H]; · iexact H
  iintro %X' H
  iexists X'; iexact H

/-- What can be written can be read. -/
theorem Writes.reads {sp : Space} {s : Shape} {e : EltTy} {m : Memref sig .tc sp s e} (h : Writes c I m) : Reads c I m := by
  unfold Reads
  refine h.trans ?_
  iintro ⟨%X, H, Hk⟩
  iexists fullShare, X
  isplitl [H]; · iexact H
  iintro H
  iapply Hk; iexact H

variable {A B : sProp (MT nD τ sig Unit Val ℕ U ℕ)}

/-- A buffer readable in the first of two holdings is readable in both together. -/
theorem Reads.left {sp : Space} {s : Shape} {e : EltTy} {m : Memref sig .tc sp s e} (h : Reads c A m) : Reads c iprop(A ∗ B) m := by
  unfold Reads at h ⊢
  iintro ⟨HA, HB⟩
  ihave HA := h $$ HA
  icases HA with ⟨%q, %X, H, Hk⟩
  iexists q, X
  isplitl [H]; · iexact H
  iintro H
  isplitl [H Hk]
  · iapply Hk; iexact H
  iexact HB

/-- A buffer readable in the second of two holdings is readable in both together. -/
theorem Reads.right {sp : Space} {s : Shape} {e : EltTy} {m : Memref sig .tc sp s e} (h : Reads c B m) : Reads c iprop(A ∗ B) m := by
  unfold Reads at h ⊢
  iintro ⟨HA, HB⟩
  ihave HB := h $$ HB
  icases HB with ⟨%q, %X, H, Hk⟩
  iexists q, X
  isplitl [H]; · iexact H
  iintro H
  isplitl [HA]
  · iexact HA
  iapply Hk; iexact H

/-- A buffer writable in the first of two holdings is writable in both together. -/
theorem Writes.left {sp : Space} {s : Shape} {e : EltTy} {m : Memref sig .tc sp s e} (h : Writes c A m) : Writes c iprop(A ∗ B) m := by
  unfold Writes at h ⊢
  iintro ⟨HA, HB⟩
  ihave HA := h $$ HA
  icases HA with ⟨%X, H, Hk⟩
  iexists X
  isplitl [H]; · iexact H
  iintro %X' H
  isplitl [H Hk]
  · iapply Hk; iexact H
  iexact HB

/-- A buffer writable in the second of two holdings is writable in both together. -/
theorem Writes.right {sp : Space} {s : Shape} {e : EltTy} {m : Memref sig .tc sp s e} (h : Writes c B m) : Writes c iprop(A ∗ B) m := by
  unfold Writes at h ⊢
  iintro ⟨HA, HB⟩
  ihave HB := h $$ HB
  icases HB with ⟨%X, H, Hk⟩
  iexists X
  isplitl [H]; · iexact H
  iintro %X' H
  isplitl [HA]
  · iexact HA
  iapply Hk; iexact H

/-- Returning keeps everything. -/
theorem Keeps.pure {α : Type} (a : α) : Keeps defs c I (Pure.pure a) := by
  unfold Keeps; exact le_wp_ret _ _ _ a (fun _ => I)

/-- Returning, written as the last step of a program. -/
theorem Keeps.ret {α : Type} (a : α) : Keeps defs c I (.ret a) := by
  unfold Keeps; exact le_wp_ret _ _ _ a (fun _ => I)

/-- Two programs one after the other. -/
theorem Keeps.bind {α β : Type} {p : Prog (TpuEff nD τ sig Val Λ .tc) α} {k : α → Prog (TpuEff nD τ sig Val Λ .tc) β}
    (hp : Keeps defs c I p) (hk : ∀ a, Keeps defs c I (k a)) : Keeps defs c I (p >>= k) := by
  unfold Keeps
  rw [wp_bind]
  exact hp.trans (wp_mono _ _ _ hk)

/-- Two conditional branches. -/
theorem Keeps.ite {α : Type} {P : Prop} [Decidable P] {p : P → Prog (TpuEff nD τ sig Val Λ .tc) α}
    {q : ¬P → Prog (TpuEff nD τ sig Val Λ .tc) α} (hp : ∀ h, Keeps defs c I (p h)) (hq : ∀ h, Keeps defs c I (q h)) :
    Keeps defs c I (dite P p q) := by
  by_cases h : P
  · rw [dif_pos h]; exact hp h
  · rw [dif_neg h]; exact hq h

/-- A load from a readable buffer. -/
theorem Keeps.load {cs : CoreSpace} {s : Shape} {e : EltTy} {m : Memref sig .tc cs s e} {r : LoadRect s} {hl : m.view.LoadsAt r}
    (h : Reads c I m) : Keeps defs c I (Prog.lift (.load m r hl)) := by
  unfold Keeps
  refine h.trans ?_
  unfold owns
  iintro ⟨%q, %X, ⟨%f, %hf, H⟩, Hk⟩
  iapply (wp_load Variants.none (c : Thread nD τ) none Set.univ (m := m) (r := r) (f := f) (View.setOn_subset_set _ _)) $$ H
  iintro H
  iapply (le_wp_ret _ _ _ _ _)
  iapply Hk
  iexists f
  isplitr; · ipureintro; exact hf
  iexact H

/-- A load of one word from a readable buffer. -/
theorem Keeps.smemLoad {s : Shape} {e : EltTy} {m : Memref sig .tc .smem s e} {r : Rect s} {h1 : r.shape.numel = 1}
    {hp : e.packing = 1} (h : Reads c I m) : Keeps (Λ := Λ) defs c I (smemLoad m r h1 hp) := by
  unfold Keeps
  refine h.trans ?_
  unfold owns
  iintro ⟨%q, %X, ⟨%f, %hf, H⟩, Hk⟩
  iapply (wp_smemLoadElt Variants.none (c : Thread nD τ) none Set.univ (m := m) (r := r) (f := f) (View.set_slice_subset _ _)) $$ H
  iintro H
  iapply (le_wp_ret _ _ _ _ _)
  iapply Hk
  iexists f
  isplitr; · ipureintro; exact hf
  iexact H

/-- A store to a writable buffer. -/
theorem Keeps.store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1} (h : Writes c I m) :
    Keeps defs c I (Prog.lift (.store m r w Mk hx hm)) := by
  unfold Keeps
  refine h.trans ?_
  unfold owns
  iintro ⟨%X, ⟨%f, %hf, H⟩, Hk⟩
  iapply (wp_store Variants.none (c : Thread nD τ) none Set.univ (m := m) (r := r) (f := f)
    ((View.setOn_subset_set _ _).trans (View.set_slice_subset _ _))) $$ H
  iintro H
  iapply (le_wp_ret _ _ _ _ _)
  iapply Hk
  iexists ((m.access r).write Val f w Mk)
  isplitr; · ipureintro; rfl
  iexact H

/-- A counted loop each of whose trips keeps what it holds. -/
theorem Keeps.for {l : Scf.Loop 32} {hok : l.OK} {σ : Type} {init : σ} {body : Fin l.trips → σ → Prog (TpuEff nD τ sig Val Λ .tc) σ}
    (h : ∀ k a, Keeps defs c I (body k a)) : Keeps defs c I (Scf.Loop.for l hok init body) := by
  unfold Keeps
  iintro H
  iapply (Scf.wp_for _ _ _ l.lb l.ub l.st hok init body (fun _ _ => I) (fun k a => h k a))
  isplitl [H]; · iexact H
  iintro %a H
  iexact H

end Cert.Keeping

end
-- ==== Proof.MixIdeal.Body.lean ====
module

public import proofs.«01_k».proof.Proof.Mix.Keeps
public import proofs.«01_k».proof.Proof.Gen.MixingIdeal.Skeleton

@[expose] public section

/-!
# The mixing call's body keeps what it holds

The body consists of loads, stores, pure operations, one counted loop and conditionals on the grid point. The proof
walks it once, with one lemma of `Keeps` for each kind of operation; nothing is said of the values it computes.
-/

noncomputable section

namespace Cert.MixingIdeal.Hand

open Cert.MixingIdeal Cert.MixingIdeal.Gen Cert.Keeping
open Idealize.ShloMosaic Idealize.ShloMosaic.TcCoe Idealize.ShloMosaic.Tactic
open Idealize.SL Idealize.SL.RA Idealize.SL.BI Idealize.SL.Sem
open scoped Idealize.SL.BI

variable {F : FTy → Type} [FloatOps F]

variable (defs : Defs nD τ sig (Elt F) Λ₀) (c : Dev nD) (I : sProp (MT nD τ sig Unit (Elt F) ℕ (UR sig nD τ) ℕ))

set_option maxHeartbeats 4000000 in
/-- From the inputs readable and the output and the scratch buffers writable, the body runs and keeps them so. -/
theorem body_keeps (i : grid0.Coords)
    (arg2 : Memref sig .tc .smem S8 .f32) (harg2 : arg2.IsWhole)
    (arg3 : Memref sig .tc .smem S256 .f32) (harg3 : arg3.IsWhole)
    (arg4 : Memref sig .tc .vmem S1x512x1024 .f32) (harg4 : arg4.IsWhole)
    (arg5 : Memref sig .tc .vmem S1x256x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1024x1920 .bf16) (harg8 : arg8.IsWhole)
    (arg9 : Memref sig .tc .vmem S1024x512 .bf16) (harg9 : arg9.IsWhole)
    (arg10 : Memref sig .tc .vmem S1024x1024 .bf16) (harg10 : arg10.IsWhole)
    (arg11 : Memref sig .tc .vmem S1x512 .f32) (harg11 : arg11.IsWhole)
    (arg12 : Memref sig .tc .vmem S1x128 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S128x128 .bf16) (harg16 : arg16.IsWhole)
    (arg17 : Memref sig .tc .vmem S1x128 .f32) (harg17 : arg17.IsWhole)
    (arg18 : Memref sig .tc .vmem S128x256 .i32) (harg18 : arg18.IsWhole)
    (arg19 : Memref sig .tc .vmem S1x512x1024 .f32) (harg19 : arg19.IsWhole)
    (arg20 : Memref sig .tc .vmem S8x128x256 .f32) (harg20 : arg20.IsWhole)
    (arg21 : Memref sig .tc .vmem S512x512 .bf16) (harg21 : arg21.IsWhole)
    (arg22 : Memref sig .tc .vmem S512x512 .bf16) (harg22 : arg22.IsWhole)
    (arg23 : Memref sig .tc .vmem S128x256 .bf16) (harg23 : arg23.IsWhole)
    (arg24 : Memref sig .tc .vmem S256x128 .f32) (harg24 : arg24.IsWhole)
    (arg25 : Memref sig .tc .vmem S640x128 .f32) (harg25 : arg25.IsWhole)
    (arg26 : Memref sig .tc .vmem S640x128 .f32) (harg26 : arg26.IsWhole)
    (arg27 : Memref sig .tc .vmem S256x256 .bf16) (harg27 : arg27.IsWhole)
    (arg28 : Memref sig .tc .vmem S256x256 .bf16) (harg28 : arg28.IsWhole)
    (arg29 : Memref sig .tc .vmem S256x128 .f32) (harg29 : arg29.IsWhole)
    (arg30 : Memref sig .tc .vmem S512x1024 .bf16) (harg30 : arg30.IsWhole)
    (arg31 : Memref sig .tc .vmem S512x128 .f32) (harg31 : arg31.IsWhole)
    (arg32 : Memref sig .tc .vmem S512x128 .f32) (harg32 : arg32.IsWhole)
    (arg33 : Memref sig .tc .vmem S512x256 .f32) (harg33 : arg33.IsWhole)
    (arg34 : Memref sig .tc .vmem S512x128 .f32) (harg34 : arg34.IsWhole)
    (arg35 : Memref sig .tc .vmem S512x256 .f32) (harg35 : arg35.IsWhole)
    (h2 : Reads c I arg2)
    (h3 : Reads c I arg3)
    (h4 : Reads c I arg4)
    (h5 : Reads c I arg5)
    (h6 : Reads c I arg6)
    (h7 : Reads c I arg7)
    (h8 : Reads c I arg8)
    (h9 : Reads c I arg9)
    (h10 : Reads c I arg10)
    (h11 : Reads c I arg11)
    (h12 : Reads c I arg12)
    (h13 : Reads c I arg13)
    (h14 : Reads c I arg14)
    (h15 : Reads c I arg15)
    (h16 : Reads c I arg16)
    (h17 : Reads c I arg17)
    (h18 : Reads c I arg18)
    (h19 : Writes c I arg19)
    (h20 : Writes c I arg20)
    (h21 : Writes c I arg21)
    (h22 : Writes c I arg22)
    (h23 : Writes c I arg23)
    (h24 : Writes c I arg24)
    (h25 : Writes c I arg25)
    (h26 : Writes c I arg26)
    (h27 : Writes c I arg27)
    (h28 : Writes c I arg28)
    (h29 : Writes c I arg29)
    (h30 : Writes c I arg30)
    (h31 : Writes c I arg31)
    (h32 : Writes c I arg32)
    (h33 : Writes c I arg33)
    (h34 : Writes c I arg34)
    (h35 : Writes c I arg35)
    : Keeps defs c I (cc0_mixing i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) := by
  have r19 := h19.reads
  have r20 := h20.reads
  have r21 := h21.reads
  have r22 := h22.reads
  have r23 := h23.reads
  have r24 := h24.reads
  have r25 := h25.reads
  have r26 := h26.reads
  have r27 := h27.reads
  have r28 := h28.reads
  have r29 := h29.reads
  have r30 := h30.reads
  have r31 := h31.reads
  have r32 := h32.reads
  have r33 := h33.reads
  have r34 := h34.reads
  have r35 := h35.reads
  rw [cc0_mixing_eq_skeleton]; unfold cc0_mixing_skel
  repeat' first
    | with_reducible refine Keeps.bind ?_ fun _ => ?_
    | with_reducible refine Keeps.load ?_; assumption
    | with_reducible refine Keeps.store ?_; assumption
    | with_reducible exact Keeps.pure _
    | with_reducible refine Keeps.ite (fun _ => ?_) (fun _ => ?_)
    | with_reducible refine Keeps.for fun _ _ => ?_
    | simp only [
        k0_part1_eq_skeleton, k0_part2_eq_skeleton, k0_part3_eq_skeleton, k0_part4_eq_skeleton, k0_part5_eq_skeleton,
        k0_part6_eq_skeleton, k0_part7_eq_skeleton, k0_part8_eq_skeleton, k0_part9_eq_skeleton, k0_part10_eq_skeleton,
        k0_part11_eq_skeleton, k0_part12_eq_skeleton, k0_part13_eq_skeleton, k0_part14_eq_skeleton,
        k0_part15_eq_skeleton, k0_part16_eq_skeleton, k0_part17_eq_skeleton, k0_part18_eq_skeleton,
        k0_part19_eq_skeleton, k0_part20_eq_skeleton, k0_part21_eq_skeleton, k0_part22_eq_skeleton,
        k0_part23_eq_skeleton, k0_part24_eq_skeleton, k0_part25_eq_skeleton, k0_part26_eq_skeleton,
        k0_part27_eq_skeleton, k0_part28_eq_skeleton, k0_part29_eq_skeleton, k0_part30_eq_skeleton,
        k0_part31_eq_skeleton, k0_part32_eq_skeleton, k0_part33_eq_skeleton, k0_part34_eq_skeleton,
        k0_part35_eq_skeleton, k0_part36_eq_skeleton, k0_part37_eq_skeleton, k0_part38_eq_skeleton,
        k0_part39_eq_skeleton, k0_part40_eq_skeleton, k0_part41_eq_skeleton, k0_part42_eq_skeleton,
        k0_part43_eq_skeleton, k0_part44_eq_skeleton, k0_part45_eq_skeleton, k0_part46_eq_skeleton,
        k0_part47_eq_skeleton, k0_part48_eq_skeleton, k0_part49_eq_skeleton, k0_part50_eq_skeleton,
        k0_part51_eq_skeleton, k0_part52_eq_skeleton, k0_part53_eq_skeleton, k0_part54_eq_skeleton,
        k0_part55_eq_skeleton, k0_part56_eq_skeleton, k0_part57_eq_skeleton, k0_part58_eq_skeleton,
        k0_part59_eq_skeleton, k0_part60_eq_skeleton, k0_part61_eq_skeleton, k0_part62_eq_skeleton,
        k0_part63_eq_skeleton, k0_part64_eq_skeleton]
      delta
        k0_part1_skel k0_part2_skel k0_part3_skel k0_part4_skel k0_part5_skel k0_part6_skel k0_part7_skel k0_part8_skel
        k0_part9_skel k0_part10_skel k0_part11_skel k0_part12_skel k0_part13_skel k0_part14_skel k0_part15_skel
        k0_part16_skel k0_part17_skel k0_part18_skel k0_part19_skel k0_part20_skel k0_part21_skel k0_part22_skel
        k0_part23_skel k0_part24_skel k0_part25_skel k0_part26_skel k0_part27_skel k0_part28_skel k0_part29_skel
        k0_part30_skel k0_part31_skel k0_part32_skel k0_part33_skel k0_part34_skel k0_part35_skel k0_part36_skel
        k0_part37_skel k0_part38_skel k0_part39_skel k0_part40_skel k0_part41_skel k0_part42_skel k0_part43_skel
        k0_part44_skel k0_part45_skel k0_part46_skel k0_part47_skel k0_part48_skel k0_part49_skel k0_part50_skel
        k0_part51_skel k0_part52_skel k0_part53_skel k0_part54_skel k0_part55_skel k0_part56_skel k0_part57_skel
        k0_part58_skel k0_part59_skel k0_part60_skel k0_part61_skel k0_part62_skel k0_part63_skel k0_part64_skel
    | unfold k0_t1_body
    | refine Keeps.smemLoad ?_; assumption

end Cert.MixingIdeal.Hand

end
-- ==== Proof.MixIdeal.Frame.lean ====
module

public import proofs.«01_k».proof.Proof.MixIdeal.Body
public import proofs.«01_k».proof.Proof.Gen.MixingIdeal.Launch
public import proofs.«01_k».proof.Proof.Gen.MixingIdeal.Points
public import proofs.«01_k».proof.Proof.Gen.MixingIdeal.Frame
public import Idealize.ShloMosaic.Lib.Pipeline.FrameBody
public import Idealize.ShloMosaic.Lib.Claim

@[expose] public section

/-!
# The frame of the mixing call's idealization

The call's body keeps what it holds (`body_keeps`), so every point of its grid can run whatever the scratch buffers and
the output's buffer hold. The inputs' buffers hold their blocks throughout; the output's contents are left unsaid. From
that follows the frame: every fair execution ends, the sixteen arguments are as they were, every counter is zero.
-/

set_option maxRecDepth 16384

noncomputable section

namespace Cert.MixingIdeal.Hand

open Cert.MixingIdeal Cert.MixingIdeal.Gen Cert.Keeping
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body holds of the core's own buffers: every scratch buffer whole at some contents, and the generator register. -/
theorem scratch_eq (c : Dev nD) :
    (Pipeline.ΦA spec0 c : sProp 𝕄)
      = iprop(iprop((∃ d, owns (c : Thread nD τ) (Memref.whole cc0_scratch0 : Memref sig .tc .vmem S8x128x256 .f32) fullShare d) ∗ (∃ d, owns (c : Thread nD τ) (Memref.whole cc0_scratch1 : Memref sig .tc .vmem S512x512 .bf16) fullShare d) ∗ (∃ d, owns (c : Thread nD τ) (Memref.whole cc0_scratch2 : Memref sig .tc .vmem S512x512 .bf16) fullShare d) ∗ (∃ d, owns (c : Thread nD τ) (Memref.whole cc0_scratch3 : Memref sig .tc .vmem S128x256 .bf16) fullShare d) ∗ (∃ d, owns (c : Thread nD τ) (Memref.whole cc0_scratch4 : Memref sig .tc .vmem S256x128 .f32) fullShare d) ∗ (∃ d, owns (c : Thread nD τ) (Memref.whole cc0_scratch5 : Memref sig .tc .vmem S640x128 .f32) fullShare d) ∗ (∃ d, owns (c : Thread nD τ) (Memref.whole cc0_scratch6 : Memref sig .tc .vmem S640x128 .f32) fullShare d) ∗ (∃ d, owns (c : Thread nD τ) (Memref.whole cc0_scratch7 : Memref sig .tc .vmem S256x256 .bf16) fullShare d) ∗ (∃ d, owns (c : Thread nD τ) (Memref.whole cc0_scratch8 : Memref sig .tc .vmem S256x256 .bf16) fullShare d) ∗ (∃ d, owns (c : Thread nD τ) (Memref.whole cc0_scratch9 : Memref sig .tc .vmem S256x128 .f32) fullShare d) ∗ (∃ d, owns (c : Thread nD τ) (Memref.whole cc0_scratch10 : Memref sig .tc .vmem S512x1024 .bf16) fullShare d) ∗ (∃ d, owns (c : Thread nD τ) (Memref.whole cc0_scratch11 : Memref sig .tc .vmem S512x128 .f32) fullShare d) ∗ (∃ d, owns (c : Thread nD τ) (Memref.whole cc0_scratch12 : Memref sig .tc .vmem S512x128 .f32) fullShare d) ∗ (∃ d, owns (c : Thread nD τ) (Memref.whole cc0_scratch13 : Memref sig .tc .vmem S512x256 .f32) fullShare d) ∗ (∃ d, owns (c : Thread nD τ) (Memref.whole cc0_scratch14 : Memref sig .tc .vmem S512x128 .f32) fullShare d) ∗ (∃ d, owns (c : Thread nD τ) (Memref.whole cc0_scratch15 : Memref sig .tc .vmem S512x256 .f32) fullShare d)) ∗ (∃ r, prngReg c r)) := by
  unfold Pipeline.ΦA; rw [scopedRest0_eq]; simp only [owns_whole]; try rfl

/-- What the body holds at point `t`: its scratch buffers at any contents, every input's block, the output's buffer at any
    contents. -/
def held (c : Dev nD) (t : Fin cfg0.N) (O : sProp 𝕄) : sProp 𝕄 :=
  iprop(Pipeline.ΦA spec0 c ∗ O
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ owns (c : Thread nD τ) (st0_13 t) fullShare (iblk m c 13 t)
    ∗ owns (c : Thread nD τ) (st0_14 t) fullShare (iblk m c 14 t)
    ∗ owns (c : Thread nD τ) (st0_15 t) fullShare (iblk m c 15 t)
    ∗ owns (c : Thread nD τ) (st0_16 t) fullShare (iblk m c 16 t)
    ∗ (∃ d, owns (c : Thread nD τ) (st0_17 t) fullShare d))

/-- The body runs at every point, and holds afterwards what it held before. -/
theorem body_runs (c : Dev nD) (t : Fin cfg0.N) (O : sProp 𝕄) :
    Keeps (defs₀ (F := F)) c (held m c t O) (bodyAt0 t) := by
  unfold held; rw [scratch_eq]
  apply body_keeps
  · iterate 2 refine Reads.right ?_
    exact Reads.left Reads.here
  · iterate 3 refine Reads.right ?_
    exact Reads.left Reads.here
  · iterate 4 refine Reads.right ?_
    exact Reads.left Reads.here
  · iterate 5 refine Reads.right ?_
    exact Reads.left Reads.here
  · iterate 6 refine Reads.right ?_
    exact Reads.left Reads.here
  · iterate 7 refine Reads.right ?_
    exact Reads.left Reads.here
  · iterate 8 refine Reads.right ?_
    exact Reads.left Reads.here
  · iterate 9 refine Reads.right ?_
    exact Reads.left Reads.here
  · iterate 10 refine Reads.right ?_
    exact Reads.left Reads.here
  · iterate 11 refine Reads.right ?_
    exact Reads.left Reads.here
  · iterate 12 refine Reads.right ?_
    exact Reads.left Reads.here
  · iterate 13 refine Reads.right ?_
    exact Reads.left Reads.here
  · iterate 14 refine Reads.right ?_
    exact Reads.left Reads.here
  · iterate 15 refine Reads.right ?_
    exact Reads.left Reads.here
  · iterate 16 refine Reads.right ?_
    exact Reads.left Reads.here
  · iterate 17 refine Reads.right ?_
    exact Reads.left Reads.here
  · iterate 18 refine Reads.right ?_
    exact Reads.left Reads.here
  · iterate 19 refine Writes.right ?_
    exact Writes.here
  · iterate 2 refine Writes.left ?_
    exact Writes.left Writes.here
  · iterate 2 refine Writes.left ?_
    iterate 1 refine Writes.right ?_
    exact Writes.left Writes.here
  · iterate 2 refine Writes.left ?_
    iterate 2 refine Writes.right ?_
    exact Writes.left Writes.here
  · iterate 2 refine Writes.left ?_
    iterate 3 refine Writes.right ?_
    exact Writes.left Writes.here
  · iterate 2 refine Writes.left ?_
    iterate 4 refine Writes.right ?_
    exact Writes.left Writes.here
  · iterate 2 refine Writes.left ?_
    iterate 5 refine Writes.right ?_
    exact Writes.left Writes.here
  · iterate 2 refine Writes.left ?_
    iterate 6 refine Writes.right ?_
    exact Writes.left Writes.here
  · iterate 2 refine Writes.left ?_
    iterate 7 refine Writes.right ?_
    exact Writes.left Writes.here
  · iterate 2 refine Writes.left ?_
    iterate 8 refine Writes.right ?_
    exact Writes.left Writes.here
  · iterate 2 refine Writes.left ?_
    iterate 9 refine Writes.right ?_
    exact Writes.left Writes.here
  · iterate 2 refine Writes.left ?_
    iterate 10 refine Writes.right ?_
    exact Writes.left Writes.here
  · iterate 2 refine Writes.left ?_
    iterate 11 refine Writes.right ?_
    exact Writes.left Writes.here
  · iterate 2 refine Writes.left ?_
    iterate 12 refine Writes.right ?_
    exact Writes.left Writes.here
  · iterate 2 refine Writes.left ?_
    iterate 13 refine Writes.right ?_
    exact Writes.left Writes.here
  · iterate 2 refine Writes.left ?_
    iterate 14 refine Writes.right ?_
    exact Writes.left Writes.here
  · iterate 2 refine Writes.left ?_
    iterate 15 refine Writes.right ?_
    exact Writes.here

/-! ## The run -/

/-- The output window, of whose contents nothing is said. -/
def forgets : Fin 18 → Bool := fun w => w.val == 17

/-- The proof data of the call on core `c`: each input's buffer holds its block after every point, of the output nothing
    is said, and between the points the core holds its own buffers at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The arrays are those the call finds. -/
theorem arrays (c : Dev nD) (w : Fin cfg0.W) : (dats m 0 c).A w = V m c (Pipeline.arrRef spec0 w) := by
  dsimp only [dats]

/-- Between the points the core holds its own buffers at any contents. -/
theorem between (c : Dev nD) (t : Fin (cfg0.N + 1)) : (dats m 0 c).Φ t = Pipeline.ΦA spec0 c := by dsimp only [dats]

/-- Nothing is owed at any point. -/
theorem owes (c : Dev nD) (t : Fin cfg0.N) : (dats m 0 c).owesAt () t.succ = (dats m 0 c).owesAt () t.castSucc := rfl

/-- Every input's buffer holds its block when a point ends. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]

/-- Every input's buffer holds its block when a point starts. -/
theorem before_0 (c : Dev nD) (t : Fin cfg0.N) (d) : (dats m 0 c).before 0 t d = iblk m c 0 t :=
  before0_0_of m (dats m 0 c) (arrays m c 0) (after_0 m c) t d

theorem before_1 (c : Dev nD) (t : Fin cfg0.N) (d) : (dats m 0 c).before 1 t d = iblk m c 1 t :=
  before0_1_of m (dats m 0 c) (arrays m c 1) (after_1 m c) t d

theorem before_2 (c : Dev nD) (t : Fin cfg0.N) (d) : (dats m 0 c).before 2 t d = iblk m c 2 t :=
  before0_2_of m (dats m 0 c) (arrays m c 2) (after_2 m c) t d

theorem before_3 (c : Dev nD) (t : Fin cfg0.N) (d) : (dats m 0 c).before 3 t d = iblk m c 3 t :=
  before0_3_of m (dats m 0 c) (arrays m c 3) (after_3 m c) t d

theorem before_4 (c : Dev nD) (t : Fin cfg0.N) (d) : (dats m 0 c).before 4 t d = iblk m c 4 t :=
  before0_4_of m (dats m 0 c) (arrays m c 4) (after_4 m c) t d

theorem before_5 (c : Dev nD) (t : Fin cfg0.N) (d) : (dats m 0 c).before 5 t d = iblk m c 5 t :=
  before0_5_of m (dats m 0 c) (arrays m c 5) (after_5 m c) t d

theorem before_6 (c : Dev nD) (t : Fin cfg0.N) (d) : (dats m 0 c).before 6 t d = iblk m c 6 t :=
  before0_6_of m (dats m 0 c) (arrays m c 6) (after_6 m c) t d

theorem before_7 (c : Dev nD) (t : Fin cfg0.N) (d) : (dats m 0 c).before 7 t d = iblk m c 7 t :=
  before0_7_of m (dats m 0 c) (arrays m c 7) (after_7 m c) t d

theorem before_8 (c : Dev nD) (t : Fin cfg0.N) (d) : (dats m 0 c).before 8 t d = iblk m c 8 t :=
  before0_8_of m (dats m 0 c) (arrays m c 8) (after_8 m c) t d

theorem before_9 (c : Dev nD) (t : Fin cfg0.N) (d) : (dats m 0 c).before 9 t d = iblk m c 9 t :=
  before0_9_of m (dats m 0 c) (arrays m c 9) (after_9 m c) t d

theorem before_10 (c : Dev nD) (t : Fin cfg0.N) (d) : (dats m 0 c).before 10 t d = iblk m c 10 t :=
  before0_10_of m (dats m 0 c) (arrays m c 10) (after_10 m c) t d

theorem before_11 (c : Dev nD) (t : Fin cfg0.N) (d) : (dats m 0 c).before 11 t d = iblk m c 11 t :=
  before0_11_of m (dats m 0 c) (arrays m c 11) (after_11 m c) t d

theorem before_12 (c : Dev nD) (t : Fin cfg0.N) (d) : (dats m 0 c).before 12 t d = iblk m c 12 t :=
  before0_12_of m (dats m 0 c) (arrays m c 12) (after_12 m c) t d

theorem before_13 (c : Dev nD) (t : Fin cfg0.N) (d) : (dats m 0 c).before 13 t d = iblk m c 13 t :=
  before0_13_of m (dats m 0 c) (arrays m c 13) (after_13 m c) t d

theorem before_14 (c : Dev nD) (t : Fin cfg0.N) (d) : (dats m 0 c).before 14 t d = iblk m c 14 t :=
  before0_14_of m (dats m 0 c) (arrays m c 14) (after_14 m c) t d

theorem before_15 (c : Dev nD) (t : Fin cfg0.N) (d) : (dats m 0 c).before 15 t d = iblk m c 15 t :=
  before0_15_of m (dats m 0 c) (arrays m c 15) (after_15 m c) t d

theorem before_16 (c : Dev nD) (t : Fin cfg0.N) (d) : (dats m 0 c).before 16 t d = iblk m c 16 t :=
  before0_16_of m (dats m 0 c) (arrays m c 16) (after_16 m c) t d

set_option maxHeartbeats 4000000 in
/-- What a point starts with is what its body needs. -/
theorem start (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare d))
    ⊢ held m c t ((dats m 0 c).owesAt () t.castSucc) := by
  unfold held
  simp only [between, before_0, before_1, before_2, before_3, before_4, before_5, before_6, before_7, before_8, before_9, before_10, before_11, before_12, before_13, before_14, before_15, before_16]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

set_option maxHeartbeats 4000000 in
/-- What the body leaves is what the point must hand on. -/
theorem finish (c : Dev nD) (t : Fin cfg0.N) :
    held m c t ((dats m 0 c).owesAt () t.castSucc) ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ (∃ d, owns (c : Thread nD τ) (st0_17 t) fullShare d)) := by
  rw [between, owes, after_0, after_1, after_2, after_3, after_4, after_5, after_6, after_7, after_8, after_9, after_10, after_11, after_12, after_13, after_14, after_15, after_16]
  exact .rfl

set_option maxHeartbeats 4000000 in
/-- The body's obligation at every point. -/
theorem obligation (c : Dev nD) :
    BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t from by
    unfold defs₀; rw [Defs.onTc_tc]]
  exact triple_restated ((start m c t).trans ((body_runs m c t _).trans (wp_mono _ _ _ fun _ => finish m c t))) rfl .rfl
    fun _ => .rfl

set_option maxHeartbeats 4000000 in
set_option backward.isDefEq.respectTransparency.types false in
/-- The launch: every fair execution of the program ends, with every input array as it was and every counter at zero. -/
theorem run_quiescent : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := arrays m) (hin := fun c => by rw [between]) (hout := fun c => by rw [between])

set_option maxHeartbeats 1080000 in
/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c =>
    ⟨(Pipeline.RDat.FramePost.arr_in h.1 c 2 rfl).trans ((arrays m c 2).trans (V_main_arg0 m c)),
      (Pipeline.RDat.FramePost.arr_in h.1 c 3 rfl).trans ((arrays m c 3).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c)⟩, h.2⟩) (run_quiescent m ρ)

end Cert.MixingIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Mixing
public import proofs.«01_k».proof.Proof.Gen.MixingIdeal
public import proofs.«01_k».proof.Proof.Ffn.Claim
public import proofs.«01_k».proof.Proof.Mix.Frame
public import proofs.«01_k».proof.Proof.MixIdeal.Frame

public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mixing.Gen.facts, Cert.MixingIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2,
    Idealize.ShloMosaic.sem_eq_zero_of_no_sems (by decide) r.2⟩) (Cert.ReferenceIdeal.Value.run m ρ),
  fun m ρ _ => Cert.Mixing.Hand.frame m ρ, fun m ρ _ => Cert.MixingIdeal.Hand.frame m ρ,
  trivial, Cert.Ffn.algebraic, trivial⟩

end Cert.Proof
